-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_positive [hPre_norm_positive : Cert.Pre_norm_positive.Facts] (m : (ℓ : Loc Cert.KernelIdeal.nD Cert.KernelIdeal.τ Cert.KernelIdeal.sig) → Buf (Elt Ideal) ℓ) : Prop :=
  ∀ c : Dev Cert.KernelIdeal.nD,
    (Cert.Pre_norm_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_positive [hPre_norm_positive : Cert.Pre_norm_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_norm_positive [hKernelIdeal : Cert.KernelIdeal.Facts] [hPre_norm_positive : Cert.Pre_norm_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_norm_positive [hReferenceIdeal : Cert.ReferenceIdeal.Facts] [hPre_norm_positive : Cert.Pre_norm_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_norm_positive [hKernelIdeal : Cert.KernelIdeal.Facts] [hReferenceIdeal : Cert.ReferenceIdeal.Facts] [hPre_norm_positive : Cert.Pre_norm_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_norm_positive : Cert.Pre_norm_positive.Facts),
    quiescent_Kernel (hKernel := hKernel)
    ∧ quiescent_KernelIdeal (hKernelIdeal := hKernelIdeal)
    ∧ quiescent_KernelIdeal_pre_norm_positive (hKernelIdeal := hKernelIdeal) (hPre_norm_positive := hPre_norm_positive)
    ∧ quiescent_ReferenceIdeal (hReferenceIdeal := hReferenceIdeal)
    ∧ quiescent_ReferenceIdeal_pre_norm_positive (hReferenceIdeal := hReferenceIdeal) (hPre_norm_positive := hPre_norm_positive)
    ∧ preserves_Kernel_KernelIdeal
    ∧ algebraic_KernelIdeal_ReferenceIdeal_pre_norm_positive (hKernelIdeal := hKernelIdeal) (hReferenceIdeal := hReferenceIdeal) (hPre_norm_positive := hPre_norm_positive)
-- ==== Pre_norm_positive.lean ====
abbrev S16x1x257x8000 : Shape := ⟨4, ![16, 1, 257, 8000]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S16x1x257x8000 .f32) (main_arg1 : FVec F S256 .f32) : IVec S_ 1 :=
  let main_cst : FVec F S_ .f32 := constant S_ .f32 0x00000000#32
  let main_v0 : FVec F S256 .f32 := broadcastInDim S256 ![] bcast_S_S256 main_cst
  let main_v1 : IVec S256 1 := cmpf .ogt main_arg1 main_v0
  let main_c : IVec S_ 1 := constantI S_ 1 1#1
  let main_v2 : IVec S_ 1 := (fun x v => Host.reduce IntOp.andi x v reducesTo_S256_S_d0 h_S_) main_v1 main_c
  main_v2
-- ==== Kernel.lean ====
abbrev S16x1x257x8000 : Shape := ⟨4, ![16, 1, 257, 8000]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16x1x256x8000 : Shape := ⟨4, ![16, 1, 256, 8000]⟩
abbrev S16x256x8000 : Shape := ⟨3, ![16, 256, 8000]⟩
abbrev S16x8000x256 : Shape := ⟨3, ![16, 8000, 256]⟩
abbrev S1x256x8000 : Shape := ⟨3, ![1, 256, 8000]⟩
abbrev S1x8000x256 : Shape := ⟨3, ![1, 8000, 256]⟩
abbrev S1x256x256 : Shape := ⟨3, ![1, 256, 256]⟩
abbrev S1x256x64 : Shape := ⟨3, ![1, 256, 64]⟩
abbrev S256x64 : Shape := ⟨2, ![256, 64]⟩
abbrev S64x256 : Shape := ⟨2, ![64, 256]⟩
abbrev S64x64 : Shape := ⟨2, ![64, 64]⟩
abbrev S64x1 : Shape := ⟨2, ![64, 1]⟩
abbrev S1x64x256 : Shape := ⟨3, ![1, 64, 256]⟩

abbrev nBuf : Space → Nat
  | .hbm => 37
  | .vmem => 7
  | .smem => 0
  | _ => 0

abbrev bufTy : (tb : Table) → Fin (tcTables nBuf tb) → BufTy
  | .hbm, ⟨0, _⟩ => ⟨S16x1x257x8000, .f32⟩
  | .hbm, ⟨1, _⟩ => ⟨S256, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x1, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S1x256, .f32⟩
  | .hbm, ⟨32, _⟩ => ⟨S16x1x256x8000, .f32⟩
  | .hbm, ⟨33, _⟩ => ⟨S16x256x8000, .f32⟩
  | .hbm, ⟨34, _⟩ => ⟨S16x8000x256, .f32⟩
  | .hbm, ⟨35, _⟩ => ⟨S16x256x8000, .f32⟩
  | .hbm, ⟨36, _⟩ => ⟨S16x1x256x8000, .f32⟩
  | .local _ .vmem, ⟨0, _⟩ => ⟨S1x256x8000, .f32⟩
  | .local _ .vmem, ⟨1, _⟩ => ⟨S1x256x8000, .f32⟩
  | .local _ .vmem, ⟨2, _⟩ => ⟨S256x256, .f32⟩
  | .local _ .vmem, ⟨3, _⟩ => ⟨S256x1, .f32⟩
  | .local _ .vmem, ⟨4, _⟩ => ⟨S1x256, .f32⟩
  | .local _ .vmem, ⟨5, _⟩ => ⟨S1x8000x256, .f32⟩
  | .local _ .vmem, ⟨6, _⟩ => ⟨S1x8000x256, .f32⟩
  | _, _ => ⟨S16x1x257x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x257x8000 : Shape := ⟨4, ![16, 1, 257, 8000]⟩
abbrev S256 : Shape := ⟨1, ![256]⟩
abbrev S16x1x256x8000 : Shape := ⟨4, ![16, 1, 256, 8000]⟩
abbrev S16x256x8000 : Shape := ⟨3, ![16, 256, 8000]⟩
abbrev S16x256 : Shape := ⟨2, ![16, 256]⟩
abbrev S8000x16x256 : Shape := ⟨3, ![8000, 16, 256]⟩
abbrev S_ : Shape := ⟨0, ![]⟩
abbrev S1x16x256 : Shape := ⟨3, ![1, 16, 256]⟩

abbrev nBuf : Space → Nat
  | .hbm => 37
  | .vmem => 0
  | .smem => 0
  | _ => 0

abbrev bufTy : (tb : Table) → Fin (tcTables nBuf tb) → BufTy
  | .hbm, ⟨0, _⟩ => ⟨S16x1x257x8000, .f32⟩
  | .hbm, ⟨1, _⟩ => ⟨S256, .f32⟩
  | .hbm, ⟨2, _⟩ => ⟨S16x1x256x8000, .f32⟩
  | .hbm, ⟨3, _⟩ => ⟨S16x256x8000, .f32⟩
  | .hbm, ⟨4, _⟩ => ⟨S16x256, .f32⟩
  | .hbm, ⟨5, _⟩ => ⟨S8000x16x256, .f32⟩
  | .hbm, ⟨6, _⟩ => ⟨S_, .f32⟩
  | .hbm, ⟨7, _⟩ => ⟨S8000x16x256, .f32⟩
  | .hbm, ⟨8, _⟩ => ⟨S_, .i32⟩
  | .hbm, ⟨9, _⟩ => ⟨S8000x16x256, .f32⟩
  | .hbm, ⟨10, _⟩ => ⟨S_, .i32⟩
  | .hbm, ⟨11, _⟩ => ⟨S16x256, .f32⟩
  | .hbm, ⟨12, _⟩ => ⟨S8000x16x256, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x16x256, .f32⟩
  | .hbm, ⟨18, _⟩ => ⟨S16x256, .f32⟩
  | .hbm, ⟨19, _⟩ => ⟨S16x256, .f32⟩
  | .hbm, ⟨20, _⟩ => ⟨S_, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S1x16x256, .f32⟩
  | .hbm, ⟨30, _⟩ => ⟨S_, .i32⟩
  | .hbm, ⟨31, _⟩ => ⟨S_, .i32⟩
  | .hbm, ⟨32, _⟩ => ⟨S8000x16x256, .f32⟩
  | .hbm, ⟨33, _⟩ => ⟨S_, .i32⟩
  | .hbm, ⟨34, _⟩ => ⟨S_, .i32⟩
  | .hbm, ⟨35, _⟩ => ⟨S16x256x8000, .f32⟩
  | .hbm, ⟨36, _⟩ => ⟨S16x1x256x8000, .f32⟩
  | _, _ => ⟨S16x1x257x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_while0c_c_3 : Ref sig .tc := ⟨.hbm, 13, rfl⟩
abbrev main_while0c_v8 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v8 : Ref sig .tc := ⟨.hbm, 18, rfl⟩
abbrev main_while0b_v9 : Ref sig .tc := ⟨.hbm, 19, rfl⟩
abbrev main_while0b_cst_3 : Ref sig .tc := ⟨.hbm, 20, rfl⟩
abbrev main_while0b_v10 : Ref sig .tc := ⟨.hbm, 21, rfl⟩
abbrev main_while0b_v11 : Ref sig .tc := ⟨.hbm, 22, rfl⟩
abbrev main_while0b_cst_4 : Ref sig .tc := ⟨.hbm, 23, rfl⟩
abbrev main_while0b_v12 : Ref sig .tc := ⟨.hbm, 24, rfl⟩
abbrev main_while0b_v13 : Ref sig .tc := ⟨.hbm, 25, rfl⟩
abbrev main_while0b_v14 : Ref sig .tc := ⟨.hbm, 26, rfl⟩
abbrev main_while0b_v15 : Ref sig .tc := ⟨.hbm, 27, rfl⟩
abbrev main_while0b_v16 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_v17 : Ref sig .tc := ⟨.hbm, 32, rfl⟩
abbrev main_while0b_c_5 : Ref sig .tc := ⟨.hbm, 33, rfl⟩
abbrev main_while0b_v18 : Ref sig .tc := ⟨.hbm, 34, rfl⟩
abbrev main_v6 : Ref sig .tc := ⟨.hbm, 35, rfl⟩
abbrev main_v7 : Ref sig .tc := ⟨.hbm, 36, rfl⟩

abbrev nD : Nat := 1
abbrev τ : Topo := Topo.v7x

variable {F : FTy → Type} [FloatOps F]

abbrev main_while0_count : Scf.Loop 32 := ⟨0#32, 8000#32, 1#32⟩
-- ==== Proof.Chunk.lean ====
/- UNTRUSTED — ONE GRID POINT of the kernel, as its chunks of 256 frames. The body is written out chunk by chunk; here it
   is one recursion (`states`), and what it stores is that recursion's chunks (`pieces_eq`). -/
module

public import proofs.«01_k».proof.Proof.Gen.KernelIdeal.Frame

@[expose] public section

set_option maxRecDepth 16384

noncomputable section

namespace Cert.Chunk

open Idealize.ShloMosaic Idealize.ShloMosaic.TcCoe Idealize.ShloMosaic.Tactic
open Cert.KernelIdeal Cert.KernelIdeal.Gen

section Any

variable {F : FTy → Type} [FloatOps F]

/-- A chunk's frames, frame by row: the block of the spectrogram, transposed. -/
def frames (x : FVec F S1x256x256 .f32) : FVec F S256x256 .f32 :=
  transpose S256x256 [1, 0] (shapeCast S256x256 x shapeCasts_S1x256x256_S256x256) transposes_S256x256_p1_0_S256x256

/-- A chunk's running norms: the table of powers times the weighted magnitudes, plus the powers times the norms that the
    chunk starts from. -/
def norms (a : FVec F S256x256 .f32) (d : FVec F S256x1 .f32) (s : FVec F S1x256 .f32) (x : FVec F S1x256x256 .f32) :
    FVec F S256x256 .f32 :=
  addf (matmul dot_S256x256_S256x256_S256x256_1_0_0_1_n_n none a
      (mulf (absf (frames x)) (broadcast S256x256 (Scalar.ofBits .f32 0x3D4CCCCD#32))) (constant S256x256 .f32 0x00000000#32))
    (mulf (broadcastTo S256x256 d broadcasts_S256x1_S256x256) (broadcastTo S256x256 s broadcasts_S1x256_S256x256))

/-- The norms that the next chunk starts from: the last row of this one's. -/
def lastRow (st : FVec F S256x256 .f32) : FVec F S1x256 .f32 :=
  extractStridedSlice S1x256 ![255, 0] st slices_S256x256_o255_0_S1x256

/-- What a chunk stores: its frames times the reciprocal roots of its norms. -/
def stored (x : FVec F S1x256x256 .f32) (st : FVec F S256x256 .f32) : FVec F S1x256x256 .f32 :=
  shapeCast S1x256x256 (mulf (frames x) (rsqrt st)) shapeCasts_S256x256_S1x256x256

/-- The norms of every chunk, from the norms `s` at the start and the chunks' blocks `x`. -/
def states (a : FVec F S256x256 .f32) (d : FVec F S256x1 .f32) (s : FVec F S1x256 .f32) (x : ℕ → FVec F S1x256x256 .f32) :
    ℕ → FVec F S256x256 .f32
  | 0 => norms a d s (x 0)
  | k + 1 => norms a d (lastRow (states a d s x k)) (x (k + 1))

/-- The last chunk's frames: 64 of them. -/
def tailFrames (x : FVec F S1x256x64 .f32) : FVec F S64x256 .f32 :=
  transpose S64x256 [1, 0] (shapeCast S256x64 x shapeCasts_S1x256x64_S256x64) transposes_S256x64_p1_0_S64x256

/-- The last chunk's running norms, by the leading corner of the table and of the powers. -/
def tailNorms (a : FVec F S256x256 .f32) (d : FVec F S256x1 .f32) (s : FVec F S1x256 .f32) (x : FVec F S1x256x64 .f32) :
    FVec F S64x256 .f32 :=
  addf (matmul dot_S64x64_S64x256_S64x256_1_0_0_1_n_n none (extractStridedSlice S64x64 ![0, 0] a slices_S256x256_o0_0_S64x64)
      (mulf (absf (tailFrames x)) (broadcast S64x256 (Scalar.ofBits .f32 0x3D4CCCCD#32))) (constant S64x256 .f32 0x00000000#32))
    (mulf (broadcastTo S64x256 (extractStridedSlice S64x1 ![0, 0] d slices_S256x1_o0_0_S64x1) broadcasts_S64x1_S64x256)
      (broadcastTo S64x256 s broadcasts_S1x256_S64x256))

/-- What the last chunk stores. -/
def tailStored (x : FVec F S1x256x64 .f32) (st : FVec F S64x256 .f32) : FVec F S1x64x256 .f32 :=
  shapeCast S1x64x256 (mulf (tailFrames x) (rsqrt st)) shapeCasts_S64x256_S1x64x256

/-! ## The body's stores -/

/-- Chunk `k`'s rectangle of the block of the spectrogram lies inside it (chunks are counted up to 31). -/
theorem inb_read (k : ℕ) : ∀ i, (![0, 0, 256 * (k % 31)] : Fin 3 → ℕ) i + S1x256x256.size i ≤ S1x256x8000.size i
  | 0 => by show 0 + 1 ≤ 1; omega
  | 1 => by show 0 + 256 ≤ 256; omega
  | 2 => by show 256 * (k % 31) + 256 ≤ 8000; omega

/-- Chunk `k`'s rectangle of the result's block lies inside it. -/
theorem inb_write (k : ℕ) : ∀ i, (![0, 256 * (k % 31), 0] : Fin 3 → ℕ) i + S1x256x256.size i ≤ S1x8000x256.size i
  | 0 => by show 0 + 1 ≤ 1; omega
  | 1 => by show 256 * (k % 31) + 256 ≤ 8000; omega
  | 2 => by show 0 + 256 ≤ 256; omega

variable (arg1 : Memref sig .tc .vmem S1x256x8000 .f32) (harg1 : arg1.IsWhole) (arg2 : Memref sig .tc .vmem S256x256 .f32)
  (harg2 : arg2.IsWhole) (arg3 : Memref sig .tc .vmem S256x1 .f32) (harg3 : arg3.IsWhole)
  (arg4 : Memref sig .tc .vmem S1x256 .f32) (harg4 : arg4.IsWhole)
  (x0 : Vec F S1x256x8000 .f32) (x1 : Vec F S256x256 .f32) (x2 : Vec F S256x1 .f32) (x3 : Vec F S1x256 .f32)

/-- The table of powers, loaded. -/
def loadedTable : FVec F S256x256 .f32 :=
  shapeCast S256x256 (View.readAt (Elt F) arg2.view (Rect.unit (s := S256x256) ![0, 0] S256x256.size inb_S256x256_S256x256_0_0).toLoadRect (harg2.unread x1))
    shapeCasts_S256x256_S256x256

/-- The powers, loaded. -/
def loadedPowers : FVec F S256x1 .f32 :=
  shapeCast S256x1 (View.readAt (Elt F) arg3.view (Rect.unit (s := S256x1) ![0, 0] S256x1.size inb_S256x1_S256x1_0_0).toLoadRect (harg3.unread x2))
    shapeCasts_S256x1_S256x1

/-- The starting norms, loaded. -/
def loadedStart : FVec F S1x256 .f32 :=
  shapeCast S1x256 (View.readAt (Elt F) arg4.view (Rect.unit (s := S1x256) ![0, 0] S1x256.size inb_S1x256_S1x256_0_0).toLoadRect (harg4.unread x3))
    shapeCasts_S1x256_S1x256

/-- Chunk `k` of the spectrogram's block, loaded. -/
def loadedChunk (k : ℕ) : FVec F S1x256x256 .f32 :=
  View.readAt (Elt F) arg1.view (Rect.unit (s := S1x256x8000) ![0, 0, 256 * (k % 31)] S1x256x256.size (inb_read k)).toLoadRect (harg1.unread x0)

/-- The last chunk, loaded. -/
def loadedTail : FVec F S1x256x64 .f32 :=
  View.readAt (Elt F) arg1.view (Rect.unit (s := S1x256x8000) ![0, 0, 7936] S1x256x64.size inb_S1x256x8000_S1x256x64_0_0_7936).toLoadRect (harg1.unread x0)

/-- The chunks' norms over the loaded operands. -/
def loadedStates : ℕ → FVec F S256x256 .f32 :=
  states (loadedTable arg2 harg2 x1) (loadedPowers arg3 harg3 x2) (loadedStart arg4 harg4 x3) (loadedChunk arg1 harg1 x0)

/-- The store of chunk `k`. -/
def piece (k : ℕ) : View.Piece (Elt F) S1x8000x256 .f32 :=
  ⟨Rect.unit (s := S1x8000x256) ![0, 256 * (k % 31), 0] S1x256x256.size (inb_write k),
    stored (loadedChunk arg1 harg1 x0 k) (loadedStates arg1 harg1 arg2 harg2 arg3 harg3 arg4 harg4 x0 x1 x2 x3 k)⟩

/-- The store of the last chunk. -/
def tailPiece : View.Piece (Elt F) S1x8000x256 .f32 :=
  ⟨Rect.unit (s := S1x8000x256) ![0, 7936, 0] S1x64x256.size inb_S1x8000x256_S1x64x256_0_7936_0,
    tailStored (loadedTail arg1 harg1 x0)
      (tailNorms (loadedTable arg2 harg2 x1) (loadedPowers arg3 harg3 x2)
        (lastRow (loadedStates arg1 harg1 arg2 harg2 arg3 harg3 arg4 harg4 x0 x1 x2 x3 30)) (loadedTail arg1 harg1 x0))⟩

/-- THE BODY'S STORES are the chunks' stores, the last first. -/
theorem pieces_eq (c : Dev nD) (i : grid0.Coords) (arg5 : Memref sig .tc .vmem S1x8000x256 .f32) (harg5 : arg5.IsWhole) :
    (kernelRun0_A c i arg1 harg1 arg2 harg2 arg3 harg3 arg4 harg4 arg5 harg5 x0 x1 x2 x3).1
      = tailPiece arg1 harg1 arg2 harg2 arg3 harg3 arg4 harg4 x0 x1 x2 x3
        :: (List.range 31).reverse.map (piece arg1 harg1 arg2 harg2 arg3 harg3 arg4 harg4 x0 x1 x2 x3) := by
  rfl

end Any

end Cert.Chunk

end
-- ==== Proof.Ema.lean ====
/- UNTRUSTED — THE ARITHMETIC of the certificate, over the extended reals and free of both programs: the running norm
   as a recursion in time (`norm`), the same norm `n` frames on as one weighted sum (`norm_add`), its sign, and the two
   spellings of "divide by the root" on a positive norm (`mul_rsqrt`). -/
module

public import Idealize.ShloMosaic.PureOps.Ideal
public import Idealize.ShloMosaic.PureOps.Ideal.Laws
public import Idealize.ShloMosaic.Lib.Pointwise

@[expose] public section

noncomputable section

namespace Cert.Ema

open Idealize.ShloMosaic

/-- The smoothing factor, as the real number its `f32` pattern denotes (the nearest to 0.95). -/
def alpha : ℝ := 15938355 / 16777216

/-- The new frame's weight, as the real number its `f32` pattern denotes (the nearest to 0.05). -/
def weight : ℝ := 13421773 / 268435456

theorem alpha_pos : 0 < alpha := by unfold alpha; norm_num
theorem weight_nonneg : 0 ≤ weight := by unfold weight; norm_num

/-- The pattern of the smoothing factor denotes `alpha`. -/
theorem ofBits_alpha : Ideal.ofBits .f32 0x3F733333#32 = (alpha : EReal) := by
  simp [Ideal.ofBits, Ideal.ieee, alpha, -EReal.coe_mul]; norm_num

/-- The pattern of the new frame's weight denotes `weight`. -/
theorem ofBits_weight : Ideal.ofBits .f32 0x3D4CCCCD#32 = (weight : EReal) := by
  simp [Ideal.ofBits, Ideal.ieee, weight, -EReal.coe_mul]; norm_num

/-- The running norm of a row: from `s₀`, frame `t` of the row `x` moves it to `|x t| · weight + norm · alpha`. -/
def norm (x : ℕ → EReal) (s₀ : EReal) : ℕ → EReal
  | 0 => s₀
  | t + 1 => max (x t) (-x t) * (weight : EReal) + norm x s₀ t * (alpha : EReal)

/-- A row of the spectrogram: batch `b`, bin `f`, as a sequence in time (zero past its end). -/
def row (spec : (⟨4, ![16, 1, 257, 8000]⟩ : Shape).Idx → EReal) (b : Fin 16) (f : Fin 256) (t : ℕ) : EReal :=
  if h : t < 8000 then spec (ix4 b 0 ⟨f.val, by omega⟩ ⟨t, h⟩) else 0

/-- Within its length a row is the spectrogram's entries. -/
theorem row_of_lt (spec : (⟨4, ![16, 1, 257, 8000]⟩ : Shape).Idx → EReal) (b : Fin 16) (f : Fin 256) (t : ℕ) (h : t < 8000) :
    row spec b f t = spec (ix4 b 0 ⟨f.val, by omega⟩ ⟨t, h⟩) := dif_pos h

/-- A nonnegative real factor distributes over a sum of extended reals. -/
theorem add_mul_coe (a b : EReal) {r : ℝ} (hr : 0 ≤ r) : (a + b) * (r : EReal) = a * r + b * r :=
  EReal.right_distrib_of_nonneg_of_ne_top (by exact_mod_cast hr) (EReal.coe_ne_top r) a b

/-- … and over a finite sum of them. -/
theorem sum_mul_coe (f : ℕ → EReal) {r : ℝ} (hr : 0 ≤ r) (n : ℕ) :
    (∑ j ∈ Finset.range n, f j) * (r : EReal) = ∑ j ∈ Finset.range n, f j * (r : EReal) := by
  induction n with
  | zero => simp
  | succ n ih => rw [Finset.sum_range_succ, Finset.sum_range_succ, add_mul_coe _ _ hr, ih]

/-- The norm `n` frames after time `lo`, as one sum: frame `lo + j` enters with the factor `alpha ^ (n - 1 - j)` and the
    norm at time `lo` with `alpha ^ n`. -/
theorem norm_add (x : ℕ → EReal) (s₀ : EReal) (lo n : ℕ) :
    norm x s₀ (lo + n)
      = (∑ j ∈ Finset.range n, ((alpha ^ (n - 1 - j) : ℝ) : EReal) * (max (x (lo + j)) (-x (lo + j)) * (weight : EReal)))
        + ((alpha ^ n : ℝ) : EReal) * norm x s₀ lo := by
  induction n with
  | zero => simp
  | succ n ih =>
    rw [← Nat.add_assoc, norm, ih, add_mul_coe _ _ alpha_pos.le, sum_mul_coe _ alpha_pos.le, Finset.sum_range_succ]
    have hs : ∀ j ∈ Finset.range n,
        ((alpha ^ (n - 1 - j) : ℝ) : EReal) * (max (x (lo + j)) (-x (lo + j)) * (weight : EReal)) * (alpha : EReal)
          = ((alpha ^ (n + 1 - 1 - j) : ℝ) : EReal) * (max (x (lo + j)) (-x (lo + j)) * (weight : EReal)) := fun j hj => by
      have hj' := Finset.mem_range.mp hj
      rw [show n + 1 - 1 - j = (n - 1 - j) + 1 by omega, pow_succ, EReal.coe_mul]
      ac_rfl
    rw [Finset.sum_congr rfl hs, show n + 1 - 1 - n = 0 by omega, pow_zero, EReal.coe_one, one_mul, pow_succ,
      EReal.coe_mul, mul_assoc, mul_assoc, mul_comm (norm x s₀ lo)]
    abel

/-- `norm_add` as a whole row of a table of powers computes it: the sum runs over all `w` columns, those past `n - 1`
    weighted by zero. -/
theorem norm_add_table (x : ℕ → EReal) (s₀ : EReal) (lo w n : ℕ) (hn : n < w) :
    norm x s₀ (lo + (n + 1))
      = (∑ j : Fin w, (if j.val ≤ n then ((alpha ^ (n - j.val) : ℝ) : EReal) else 0)
            * (max (x (lo + j.val)) (-x (lo + j.val)) * (weight : EReal)))
        + ((alpha ^ (n + 1) : ℝ) : EReal) * norm x s₀ lo := by
  rw [norm_add]
  congr 1
  rw [Fin.sum_univ_eq_sum_range (fun j => (if j ≤ n then ((alpha ^ (n - j) : ℝ) : EReal) else 0)
        * (max (x (lo + j)) (-x (lo + j)) * (weight : EReal))) w]
  rw [← Finset.sum_subset (Finset.range_subset_range.mpr (show n + 1 ≤ w by omega))
    (fun j _ hj => by rw [if_neg (by simpa using hj), zero_mul])]
  refine Finset.sum_congr rfl fun j hj => ?_
  rw [if_pos (by have := Finset.mem_range.mp hj; omega), Nat.add_sub_cancel]

/-- From a positive start the norm is positive at every time. -/
theorem norm_pos (x : ℕ → EReal) {s₀ : EReal} (h : 0 < s₀) : ∀ t, 0 < norm x s₀ t
  | 0 => h
  | t + 1 => by
    have h1 : (0 : EReal) ≤ max (x t) (-x t) * (weight : EReal) := by
      refine mul_nonneg ?_ (by exact_mod_cast weight_nonneg)
      rcases le_total 0 (x t) with hx | hx
      · exact le_max_of_le_left hx
      · exact le_max_of_le_right (EReal.neg_nonneg.mpr hx)
    exact (EReal.mul_pos (norm_pos x h t) (by exact_mod_cast alpha_pos)).trans_le (le_add_of_nonneg_left h1)

/-- On a positive `s`, multiplying by the reciprocal root is dividing by the root. -/
theorem mul_rsqrt (x : EReal) {s : EReal} (h : 0 < s) : x * Ideal.rsqrt s = Ideal.div x (Ideal.sqrt s) := by
  induction s with
  | bot => exact absurd h (by simp)
  | top => simp [Ideal.div]
  | coe r =>
    have hr : 0 < r := by exact_mod_cast h
    have hs : 0 < Real.sqrt r := Real.sqrt_pos.mpr hr
    rw [Ideal.rsqrt_coe, if_neg hr.not_gt, if_neg hr.ne', Ideal.sqrt_coe, if_neg hr.not_gt, Ideal.div,
      if_neg (by exact_mod_cast hs.ne'), ← EReal.coe_inv]

/-- An entry of the table of powers: on and below the diagonal, the real power to the difference of two numbers. -/
theorem pow_sub (i j : ℕ) (h : j ≤ i) :
    Ideal.pow (alpha : EReal) (((i : ℝ) - (j : ℝ) : ℝ) : EReal) = ((alpha ^ (i - j) : ℝ) : EReal) := by
  rw [Ideal.pow_coe_coe, ← Nat.cast_sub h]
  exact congrArg _ (Real.rpow_natCast alpha (i - j))

end Cert.Ema

end
-- ==== Proof.ChunkValue.lean ====
/- UNTRUSTED — WHAT A GRID POINT'S CHUNKS HOLD over the reals: chunk `k`'s norms are the running norms after frames
   `256 k + 1` to `256 k + 256` (`states_apply`), so each stored entry is a frame times its norm's reciprocal root, and
   the whole block read back is that one function (`block_eq`). -/
module

public import proofs.«01_k».proof.Proof.Chunk
public import proofs.«01_k».proof.Proof.Ema
public import Idealize.ShloMosaic.Lib.Pointwise
public import Idealize.ShloMosaic.Lib.WholeRead

@[expose] public section

set_option maxRecDepth 16384

noncomputable section

namespace Cert.Chunk

open Idealize.ShloMosaic Idealize.ShloMosaic.TcCoe Idealize.ShloMosaic.Tactic
open Cert.KernelIdeal Cert.KernelIdeal.Gen

/-! ## The chunk's functions at an index -/

/-- The last row is the row `255`. -/
theorem lastRow_apply (st : FVec Ideal S256x256 .f32) (f : Fin 256) :
    (lastRow st : S1x256.Idx → EReal) (ix2 0 f) = st (ix2 255 f) := by
  unfold lastRow
  pointwise

/-- A stored entry is a frame times the reciprocal root of its norm. -/
theorem stored_apply (x : FVec Ideal S1x256x256 .f32) (st : FVec Ideal S256x256 .f32) (i f : Fin 256) :
    (stored x st : S1x256x256.Idx → EReal) (ix3 0 i f) = x (ix3 0 f i) * Ideal.rsqrt (st (ix2 i f)) := by
  unfold stored frames
  pointwise

/-- The same in the last chunk. -/
theorem tailStored_apply (x : FVec Ideal S1x256x64 .f32) (st : FVec Ideal S64x256 .f32) (i : Fin 64) (f : Fin 256) :
    (tailStored x st : S1x64x256.Idx → EReal) (ix3 0 i f) = x (ix3 0 f i) * Ideal.rsqrt (st (ix2 i f)) := by
  unfold tailStored tailFrames
  pointwise

/-- The two tables: entry `(i, j)` of the table of powers is `alpha ^ (i - j)` on and under the diagonal and zero above
    it, and entry `i` of the powers is `alpha ^ (i + 1)`. -/
def Tables (a : FVec Ideal S256x256 .f32) (d : FVec Ideal S256x1 .f32) : Prop :=
  (∀ i j : Fin 256, (a (ix2 i j) : EReal) = if j.val ≤ i.val then ((Ema.alpha ^ (i.val - j.val) : ℝ) : EReal) else 0) ∧
    ∀ i : Fin 256, (d (ix2 i 0) : EReal) = ((Ema.alpha ^ (i.val + 1) : ℝ) : EReal)

variable {a : FVec Ideal S256x256 .f32} {d : FVec Ideal S256x1 .f32}

/-- A chunk from frame `lo`, started at the norms after `lo` frames, holds the norms after `lo + 1`, `lo + 2`, … -/
theorem norms_apply (h : Tables a d) (s : FVec Ideal S1x256 .f32) (x : FVec Ideal S1x256x256 .f32) (f : Fin 256)
    (xr : ℕ → EReal) (s₀ : EReal) (lo : ℕ) (hs : (s (ix2 0 f) : EReal) = Ema.norm xr s₀ lo)
    (hx : ∀ j : Fin 256, (x (ix3 0 f j) : EReal) = xr (lo + j.val)) (i : Fin 256) :
    (norms a d s x : S256x256.Idx → EReal) (ix2 i f) = Ema.norm xr s₀ (lo + (i.val + 1)) := by
  rw [Ema.norm_add_table xr s₀ lo 256 i.val i.isLt]
  unfold norms frames
  pointwise
  rw [Ema.ofBits_weight, h.2 i, hs]
  congr 1
  refine Finset.sum_congr rfl fun j _ => ?_
  rw [h.1 i j]
  show _ * (max (x (ix3 0 f j) : EReal) (-(x (ix3 0 f j) : EReal)) * _) = _
  rw [hx j]

/-- The same for the last chunk's 64 frames. -/
theorem tailNorms_apply (h : Tables a d) (s : FVec Ideal S1x256 .f32) (x : FVec Ideal S1x256x64 .f32) (f : Fin 256)
    (xr : ℕ → EReal) (s₀ : EReal) (lo : ℕ) (hs : (s (ix2 0 f) : EReal) = Ema.norm xr s₀ lo)
    (hx : ∀ j : Fin 64, (x (ix3 0 f j) : EReal) = xr (lo + j.val)) (i : Fin 64) :
    (tailNorms a d s x : S64x256.Idx → EReal) (ix2 i f) = Ema.norm xr s₀ (lo + (i.val + 1)) := by
  rw [Ema.norm_add_table xr s₀ lo 64 i.val i.isLt]
  unfold tailNorms tailFrames
  pointwise
  rw [Ema.ofBits_weight, h.2 _, hs]
  congr 1
  refine Finset.sum_congr rfl fun j _ => ?_
  rw [h.1 _ _]
  show _ * (max (x (ix3 0 f j) : EReal) (-(x (ix3 0 f j) : EReal)) * _) = _
  rw [hx j]

/-- CHUNK `k`'S NORMS: the running norms after frames `256 k + 1` to `256 k + 256`. -/
theorem states_apply (h : Tables a d) (s : FVec Ideal S1x256 .f32) (x : ℕ → FVec Ideal S1x256x256 .f32) (f : Fin 256)
    (xr : ℕ → EReal) (s₀ : EReal) (hs : (s (ix2 0 f) : EReal) = s₀) :
    ∀ k : ℕ, (∀ k' ≤ k, ∀ j : Fin 256, (x k' (ix3 0 f j) : EReal) = xr (256 * k' + j.val)) → ∀ i : Fin 256,
      (states a d s x k : S256x256.Idx → EReal) (ix2 i f) = Ema.norm xr s₀ (256 * k + (i.val + 1))
  | 0, hx, i => norms_apply h s (x 0) f xr s₀ 0 hs (fun j => by simpa using hx 0 le_rfl j) i
  | k + 1, hx, i => by
    refine norms_apply h _ (x (k + 1)) f xr s₀ (256 * (k + 1)) ?_ (hx (k + 1) le_rfl) i
    rw [lastRow_apply, states_apply h s x f xr s₀ hs k (fun k' hk' => hx k' (hk'.trans (Nat.le_succ k))) 255]
    rfl

/-! ## The loads -/

section Loads

variable (arg1 : Memref sig .tc .vmem S1x256x8000 .f32) (harg1 : arg1.IsWhole) (arg2 : Memref sig .tc .vmem S256x256 .f32)
  (harg2 : arg2.IsWhole) (arg3 : Memref sig .tc .vmem S256x1 .f32) (harg3 : arg3.IsWhole)
  (arg4 : Memref sig .tc .vmem S1x256 .f32) (harg4 : arg4.IsWhole)
  (x0 : Vec Ideal S1x256x8000 .f32) (x1 : Vec Ideal S256x256 .f32) (x2 : Vec Ideal S256x1 .f32) (x3 : Vec Ideal S1x256 .f32)

/-- The table is loaded as it is. -/
theorem loadedTable_apply (i j : Fin 256) :
    (loadedTable arg2 harg2 x1 : S256x256.Idx → EReal) (ix2 i j) = x1 (ix2 i j) := by
  unfold loadedTable
  rw [View.readAt_eq_ld, Memref.IsWhole.read_unread]
  pointwise

/-- So are the powers. -/
theorem loadedPowers_apply (i : Fin 256) : (loadedPowers arg3 harg3 x2 : S256x1.Idx → EReal) (ix2 i 0) = x2 (ix2 i 0) := by
  unfold loadedPowers
  rw [View.readAt_eq_ld, Memref.IsWhole.read_unread]
  pointwise

/-- So are the starting norms. -/
theorem loadedStart_apply (f : Fin 256) : (loadedStart arg4 harg4 x3 : S1x256.Idx → EReal) (ix2 0 f) = x3 (ix2 0 f) := by
  unfold loadedStart
  rw [View.readAt_eq_ld, Memref.IsWhole.read_unread]
  pointwise

/-- Chunk `k` is the block's frames from `256 k` on. -/
theorem loadedChunk_apply (k : ℕ) (hk : k < 31) (f j : Fin 256) :
    (loadedChunk arg1 harg1 x0 k : S1x256x256.Idx → EReal) (ix3 0 f j) = x0 (ix3 0 f ⟨256 * k + j.val, by omega⟩) := by
  unfold loadedChunk
  rw [View.readAt_eq_ld, Memref.IsWhole.read_unread]
  pointwise
  simp only [Nat.mod_eq_of_lt hk]

/-- The last chunk is the block's frames from `7936` on. -/
theorem loadedTail_apply (f : Fin 256) (j : Fin 64) :
    (loadedTail arg1 harg1 x0 : S1x256x64.Idx → EReal) (ix3 0 f j) = x0 (ix3 0 f ⟨7936 + j.val, by omega⟩) := by
  unfold loadedTail
  rw [View.readAt_eq_ld, Memref.IsWhole.read_unread]
  pointwise

/-! ## The block -/

/-- A grid point's result, entry by entry: the frame times the reciprocal root of the running norm after it. -/
def result (xr : Fin 256 → ℕ → EReal) (s₀ : Fin 256 → EReal) : Vec Ideal S1x8000x256 .f32 := fun y =>
  (xr ⟨(y 2).val, (y 2).isLt⟩ (y 1).val *
    Ideal.rsqrt (Ema.norm (xr ⟨(y 2).val, (y 2).isLt⟩) (s₀ ⟨(y 2).val, (y 2).isLt⟩) ((y 1).val + 1)) : EReal)

/-- … at the index whose frame is `t` and whose bin is `f`. -/
theorem result_of (xr : Fin 256 → ℕ → EReal) (s₀ : Fin 256 → EReal) (y : S1x8000x256.Idx) (t : ℕ) (f : Fin 256)
    (ht : (y 1).val = t) (hf : (y 2).val = f.val) :
    (result xr s₀ y : EReal) = xr f t * Ideal.rsqrt (Ema.norm (xr f) (s₀ f) (t + 1)) := by
  subst ht
  obtain rfl : (⟨(y 2).val, (y 2).isLt⟩ : Fin 256) = f := Fin.ext hf
  rfl

variable {x0 x1 x2 x3}

/-- EVERY STORE of the body holds the part of `result` that its rectangle names. -/
theorem pieces_apply (h : Tables x1 x2) (xr : Fin 256 → ℕ → EReal) (s₀ : Fin 256 → EReal)
    (hx : ∀ (f : Fin 256) (t : Fin 8000), (x0 (ix3 0 f t) : EReal) = xr f t.val) (hs : ∀ f : Fin 256, (x3 (ix2 0 f) : EReal) = s₀ f)
    (c : Dev nD) (i : grid0.Coords) (arg5 : Memref sig .tc .vmem S1x8000x256 .f32) (harg5 : arg5.IsWhole) :
    ∀ p ∈ (kernelRun0_A c i arg1 harg1 arg2 harg2 arg3 harg3 arg4 harg4 arg5 harg5 x0 x1 x2 x3).1, ∀ x : p.1.shape.Idx,
      p.2 x = result xr s₀ (p.1.emb x) := by
  have hT : Tables (loadedTable arg2 harg2 x1) (loadedPowers arg3 harg3 x2) :=
    ⟨fun i j => (loadedTable_apply arg2 harg2 x1 i j).trans (h.1 i j), fun i => (loadedPowers_apply arg3 harg3 x2 i).trans (h.2 i)⟩
  have hst : ∀ k < 31, ∀ i f : Fin 256,
      (loadedStates arg1 harg1 arg2 harg2 arg3 harg3 arg4 harg4 x0 x1 x2 x3 k : S256x256.Idx → EReal) (ix2 i f)
        = Ema.norm (xr f) (s₀ f) (256 * k + (i.val + 1)) := fun k hk i f =>
    states_apply hT _ _ f (xr f) (s₀ f) ((loadedStart_apply arg4 harg4 x3 f).trans (hs f)) k
      (fun k' hk' j => (loadedChunk_apply arg1 harg1 x0 k' (by omega) f j).trans (hx f _)) i
  rw [pieces_eq]
  intro p hp
  rcases List.mem_cons.mp hp with rfl | hp
  · intro x
    obtain ⟨j, f, rfl⟩ : ∃ (j : Fin 64) (f : Fin 256), x = ix3 0 j f := ⟨x 1, x 2, by idx_vars x; exact congrArg (ix3 · _ _) (Subsingleton.elim _ _)⟩
    refine (tailStored_apply _ _ j f).trans ?_
    rw [tailNorms_apply hT _ _ f (xr f) (s₀ f) 7936 ?_ (fun j => (loadedTail_apply arg1 harg1 x0 f j).trans (hx f _)) j,
      loadedTail_apply, hx]
    · exact (result_of xr s₀ _ (7936 + j.val) f (by show 7936 + 1 * j.val = _; omega) (by show 0 + 1 * f.val = _; omega)).symm
    · rw [lastRow_apply]
      exact hst 30 (by omega) 255 f
  · obtain ⟨k, hk, rfl⟩ := List.mem_map.mp hp
    have hk : k < 31 := by simpa using hk
    intro x
    obtain ⟨j, f, rfl⟩ : ∃ (j f : Fin 256), x = ix3 0 j f := ⟨x 1, x 2, by idx_vars x; exact congrArg (ix3 · _ _) (Subsingleton.elim _ _)⟩
    refine (stored_apply _ _ j f).trans ?_
    rw [hst k hk, loadedChunk_apply arg1 harg1 x0 k hk, hx]
    exact (result_of xr s₀ _ (256 * k + j.val) f (by show 256 * (k % 31) + 1 * j.val = _; omega)
      (by show 0 + 1 * f.val = _; omega)).symm

/-- WHAT A GRID POINT LEAVES in the result's block: the stores cover it, so it is `result` everywhere. -/
theorem block_eq (h : Tables x1 x2) (xr : Fin 256 → ℕ → EReal) (s₀ : Fin 256 → EReal)
    (hx : ∀ (f : Fin 256) (t : Fin 8000), (x0 (ix3 0 f t) : EReal) = xr f t.val) (hs : ∀ f : Fin 256, (x3 (ix2 0 f) : EReal) = s₀ f)
    (c : Dev nD) (i : grid0.Coords) (arg5 : Memref sig .tc .vmem S1x8000x256 .f32) (harg5 : arg5.IsWhole) :
    out0_A_4 c i arg1 harg1 arg2 harg2 arg3 harg3 arg4 harg4 arg5 harg5 x0 x1 x2 x3 = result xr s₀ := by
  funext y
  unfold out0_A_4
  exact View.read_writes_apply_of_pieces VO0_4 _ (result xr s₀) _
    (pieces_apply arg1 harg1 arg2 harg2 arg3 harg3 arg4 harg4 h xr s₀ hx hs c i arg5 harg5) y
    (cover0_A_4 c i arg1 harg1 arg2 harg2 arg3 harg3 arg4 harg4 arg5 harg5 x0 x1 x2 x3 y)

end Loads

end Cert.Chunk

end
-- ==== Proof.Operands.lean ====
/- UNTRUSTED — WHAT THE REGION FINDS in its four operands: the spectrogram's rows (`spec`), the table of powers
   (`table`), the powers (`powers`) and the starting norms (`start`), read off the host operations before it. -/
module

public import proofs.«01_k».proof.Proof.ChunkValue
public import Idealize.ShloMosaic.Lib.StableHlo.ReadAt

@[expose] public section

set_option maxRecDepth 16384

noncomputable section

namespace Cert.Operands

open Idealize.ShloMosaic Idealize.ShloMosaic.TcCoe Idealize.ShloMosaic.Tactic
open Cert.KernelIdeal Cert.KernelIdeal.Gen

variable (m : (ℓ : Loc nD τ sig) → Buf (Elt Ideal) ℓ)

/-! ## Indices as words -/

/-- The word of an index is the index. -/
theorem toInt_index (i : Fin 256) : (BitVec.ofNat 32 i.val).toInt = (i.val : ℤ) := by
  have := i.isLt
  rw [BitVec.toInt_ofNat', Int.bmod_def]
  omega

/-- The difference of two indices' words, the first no less, is their difference. -/
theorem toInt_sub_index (i j : Fin 256) : (IntOp.subi (BitVec.ofNat 32 i.val) (BitVec.ofNat 32 j.val)).toInt = (i.val : ℤ) - (j.val : ℤ) := by
  have := i.isLt
  have := j.isLt
  show (BitVec.ofNat 32 i.val - BitVec.ofNat 32 j.val).toInt = _
  rw [BitVec.toInt_sub, toInt_index, toInt_index, Int.bmod_def]
  omega

/-- A choice by the signed order of two indices' words is the choice by their order. -/
theorem select_sge_index {α : Type} (i j : Fin 256) (x y : α) :
    Scalar.select (IntOp.cmpi .sge (BitVec.ofNat 32 i.val) (BitVec.ofNat 32 j.val)) x y = if j.val ≤ i.val then x else y := by
  have h : (BitVec.ofNat 32 j.val).sle (BitVec.ofNat 32 i.val) = decide (j.val ≤ i.val) := by
    rw [BitVec.sle, toInt_index, toInt_index]
    simp
  by_cases hij : j.val ≤ i.val <;> simp [Scalar.select, IntOp.cmpi, h, hij]

/-! ## The operands -/

/-- The spectrogram's rows. -/
theorem spec (c : Dev nD) (b : Fin 16) (f : Fin 256) (t : Fin 8000) :
    (V m c main_v25 : S16x256x8000.Idx → EReal) (ix3 b f t) = Ema.row (m ((c : Thread nD τ).loc main_arg0)) b f t.val := by
  rw [Ema.row_of_lt _ _ _ _ t.isLt]
  after_reads_at

/-- The starting norms. -/
theorem start (c : Dev nD) (f : Fin 256) :
    (V m c main_v23 : S1x256.Idx → EReal) (ix2 0 f) = (m ((c : Thread nD τ).loc main_arg1) : S256.Idx → EReal) (ix1 f) := by
  after_reads_at

/-- The powers: entry `i` is `alpha ^ (i + 1)`. -/
theorem powers (c : Dev nD) (i : Fin 256) :
    (V m c main_v22 : S256x1.Idx → EReal) (ix2 i 0) = ((Ema.alpha ^ (i.val + 1) : ℝ) : EReal) := by
  after_reads_at
  clean_types
  simp only [id]
  pointwise
  rw [Ema.ofBits_alpha]
  show Ideal.pow _ ((((BitVec.ofNat 32 i.val).toInt : ℝ) : EReal) + ((1 : ℝ) : EReal)) = _
  rw [toInt_index, ← EReal.coe_add]
  have := Ema.pow_sub (i.val + 1) 0 (Nat.zero_le _)
  simpa using this

/-- The table of powers: entry `(i, j)` is `alpha ^ (i - j)` on and under the diagonal, zero above it. -/
theorem table (c : Dev nD) (i j : Fin 256) :
    (V m c main_v15 : S256x256.Idx → EReal) (ix2 i j)
      = if j.val ≤ i.val then ((Ema.alpha ^ (i.val - j.val) : ℝ) : EReal) else 0 := by
  after_reads_at
  clean_types
  simp only [id]
  pointwise
  rw [Ema.ofBits_alpha, select_sge_index]
  by_cases h : j.val ≤ i.val
  · rw [if_pos h, if_pos h, ← Ema.pow_sub _ _ h]
    refine congrArg _ ?_
    show (((IntOp.subi (BitVec.ofNat 32 i.val) (BitVec.ofNat 32 j.val)).toInt : ℝ) : EReal) = _
    rw [toInt_sub_index]
    push_cast
    rfl
  · rw [if_neg h, if_neg h]

/-- The two tables are what the chunks' arithmetic asks of them. -/
theorem tables (c : Dev nD) : Chunk.Tables (V m c main_v15) (V m c main_v22) := ⟨table m c, powers m c⟩

end Cert.Operands

end
-- ==== Proof.KernelValue.lean ====
/- UNTRUSTED — THE KERNEL'S VALUE. Each grid point's block of the kernel's array is `Chunk.result` of its batch's rows,
   the points' blocks fill the array (`array_eq`), and the two host operations after the region put bins before frames;
   `run_value` is the run with the result array read element by element. -/
module

public import proofs.«01_k».proof.Proof.Operands
public import Idealize.ShloMosaic.Lib.Pipeline.ValueKit

@[expose] public section

set_option maxRecDepth 16384

noncomputable section

namespace Cert.KernelValue

open Idealize.ShloMosaic Idealize.ShloMosaic.TcCoe Idealize.ShloMosaic.Tactic Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The spectrogram as launched. -/
abbrev specOf (c : Dev nD) : S16x1x257x8000.Idx → EReal := m ((c : Thread nD τ).loc main_arg0)

/-- The starting norms as launched. -/
abbrev normOf (c : Dev nD) : S256.Idx → EReal := m ((c : Thread nD τ).loc main_arg1)

/-! ## The windows -/

/-- The block indices at point `t`: the spectrogram and the result move by one batch a point, the rest stay. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] :=
  (by decide +kernel : ∀ t : Fin grid0.N, win0_0.index t = ![t.val, 0, 0] ∧ win0_1.index t = ![0, 0]
    ∧ win0_2.index t = ![0, 0] ∧ win0_3.index t = ![0, 0] ∧ win0_4.index t = ![t.val, 0, 0])

/-- A grid point as a batch. -/
def batch (t : Fin cfg0.N) : Fin 16 := ⟨t.val, t.isLt⟩

theorem iblk0_apply (c : Dev nD) (t : Fin cfg0.N) (f : Fin 256) (k : Fin 8000) :
    (iblk m c 0 t : S1x256x8000.Idx → EReal) (ix3 0 f k) = (V m c main_v25 : S16x256x8000.Idx → EReal) (ix3 (batch t) f k) := by
  blk_ext [iblk, idx t, batch]

theorem iblk1_eq (c : Dev nD) (t : Fin cfg0.N) : iblk m c 1 t = (V m c main_v15 : S256x256.Idx → EReal) := by
  funext y
  blk_ext [iblk, idx t]

theorem iblk2_eq (c : Dev nD) (t : Fin cfg0.N) : iblk m c 2 t = (V m c main_v22 : S256x1.Idx → EReal) := by
  funext y
  blk_ext [iblk, idx t]

theorem iblk3_eq (c : Dev nD) (t : Fin cfg0.N) : iblk m c 3 t = (V m c main_v23 : S1x256.Idx → EReal) := by
  funext y
  blk_ext [iblk, idx t]

/-- What point `t` leaves in the result's block: its batch's rows, each frame times its norm's reciprocal root. -/
theorem outsAt_eq (c : Dev nD) (t : Fin cfg0.N) :
    outsAt0 m c t = Chunk.result (Ema.row (specOf m c) (batch t)) (fun f => normOf m c (ix1 f)) := by
  unfold outsAt0
  refine Chunk.block_eq _ _ _ _ _ _ _ _ ?_ _ _ ?_ ?_ c _ _ _
  · rw [iblk1_eq, iblk2_eq]
    exact Operands.tables m c
  · intro f k
    exact (iblk0_apply m c t f k).trans (Operands.spec m c (batch t) f k)
  · intro f
    rw [iblk3_eq]
    exact Operands.start m c f

/-- The kernel's value at batch `b`, bin `f`, frame `t`: the frame times its norm's reciprocal root. -/
def value (c : Dev nD) (b : Fin 16) (f : Fin 256) (t : ℕ) : EReal :=
  Ema.row (specOf m c) b f t * Ideal.rsqrt (Ema.norm (Ema.row (specOf m c) b f) (normOf m c (ix1 f)) (t + 1))

/-- The kernel's array, frames before bins. -/
def array (c : Dev nD) : S16x8000x256.Idx → EReal := fun y =>
  value m c ⟨(y 0).val, (y 0).isLt⟩ ⟨(y 2).val, (y 2).isLt⟩ (y 1).val

/-- THE KERNEL'S ARRAY after the run. -/
theorem array_eq (c : Dev nD) : (dats m 0 c).arrAt 4 cfg0.N = array m c := by
  refine (dats m 0 c).arrAt_eq_of_covers 4 _ (by decide +kernel) fun t hf y => ?_
  blk_simp
  rw [after0_4, outsAt_eq]
  have h0 : (((win0_4.blk t).view.emb y) 0 : ℕ) = t.val := by blk_simp [idx t]
  have h1 : (((win0_4.blk t).view.emb y) 1 : ℕ) = (y 1).val := by blk_simp [idx t]
  have h2 : (((win0_4.blk t).view.emb y) 2 : ℕ) = (y 2).val := by blk_simp [idx t]
  refine (Chunk.result_of _ _ y _ ⟨_, (((win0_4.blk t).view.emb y) 2).isLt⟩ h1.symm h2.symm).trans ?_
  rw [show batch t = ⟨_, (((win0_4.blk t).view.emb y) 0).isLt⟩ from Fin.ext h0.symm]
  rfl

/-- The result after the host operations: bins before frames. -/
theorem tail_apply (c : Dev nD) (b : Fin 16) (f : Fin 256) (t : Fin 8000) :
    (Pipeline.afterTail₀ cfgs (dats m) 0 (V0 m) [hostOps1] c main_v28 : S16x1x256x8000.Idx → EReal) (ix4 b 0 f t)
      = value m c b f t.val := by
  unfold Pipeline.afterTail₀
  after_reads_at
  have h := Pipeline.withArrays_arr spec0 launch0.win.arr_inj c (V0 m c) (fun w => (dats m 0 c).arrAt w (cfgs 0).N) 4
  refine (congrFun (h.trans (array_eq m c)) (ix3 b t f)).trans ?_
  rfl

/-- THE KERNEL'S RUN: its result array reads `value`, and its arguments are as launched. -/
theorem run_value : θ_run defs (onTc (τ := τ) (main (F := Ideal))) ⟨m, fun _ => 0, ρ⟩ fun r => ∀ c : Dev nD,
      (∀ (b : Fin 16) (f : Fin 256) (t : Fin 8000),
        (r.2.mem ((c : Thread nD τ).loc main_v28) : S16x1x256x8000.Idx → EReal) (ix4 b 0 f t) = value m c b f t.val)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨fun b f t => (congrFun ((h c).2 main_v28 (Pipeline.mem_restRefs_of main_v28 (by decide) (by decide))) (ix4 b 0 f t)).trans
        (tail_apply m c b f t),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelValue

end
-- ==== Proof.Reference.lean ====
/- UNTRUSTED — THE REFERENCE'S VALUE. Its run ends at 8000 trips of a counted loop; here one invariant of those trips
   (`Inv`) gives the result element by element (`result_apply`): frame `t` of a row divided by the root of its running
   norm after frame `t`. -/
module

public import proofs.«01_k».proof.Proof.Gen.ReferenceIdeal.Run
public import proofs.«01_k».proof.Proof.Ema
public import Idealize.ShloMosaic.Lib.Pointwise
public import Idealize.ShloMosaic.Lib.StableHlo.ReadAt

@[expose] public section

set_option maxRecDepth 16384

noncomputable section

namespace Cert.RefValue

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value

/-! ## One frame taken from, and put into, an array of frames -/

/-- A start vector whose entries are `k`, 0, 0, on the axes of the frames' array, is taken as it is: nothing is clamped. -/
theorem clampedStart_frame (start : Fin 3 → Int) (k : ℕ) (hk : k < 8000) (h0 : start 0 = k) (h1 : start 1 = 0)
    (h2 : start 2 = 0) (hr : S1x16x256.rank = S8000x16x256.rank) :
    Host.clampedStart S8000x16x256 S1x16x256 hr start 0 = k
      ∧ Host.clampedStart S8000x16x256 S1x16x256 hr start 1 = 0
      ∧ Host.clampedStart S8000x16x256 S1x16x256 hr start 2 = 0 :=
  ⟨Host.clampedStart_of_le hr start 0 k h0 (show k + 1 ≤ 8000 by omega),
    Host.clampedStart_of_le hr start 1 0 h1 (show 0 + 16 ≤ 16 by omega),
    Host.clampedStart_of_le hr start 2 0 h2 (show 0 + 256 ≤ 256 by omega)⟩

/-- Frame `k` sliced out of an array of frames is that frame. -/
theorem slice_frame {α : Type} (x : S8000x16x256.Idx → α) (start : Fin 3 → Int) (k : ℕ) (hk : k < 8000) (h0 : start 0 = k)
    (h1 : start 1 = 0) (h2 : start 2 = 0) (h : S8000x16x256.Slices (fun _ => 0) S1x16x256) (b : Fin 16) (f : Fin 256) :
    Host.dynamicSlice S1x16x256 x start h (ix3 0 b f) = x (ix3 ⟨k, hk⟩ b f) := by
  obtain ⟨c0, c1, c2⟩ := clampedStart_frame start k hk h0 h1 h2 h.1
  pointwise
  congr 1
  refine congr (congr (congrArg _ (Fin.ext ?_)) (Fin.ext ?_)) (Fin.ext ?_)
  · exact c0
  · show _ + b.val = b.val
    rw [c1, Nat.zero_add]
  · show _ + f.val = f.val
    rw [c2, Nat.zero_add]

/-- An array of frames after frame `k` is replaced: the new frame there, every other frame as it was. -/
theorem update_frame {α : Type} (x : S8000x16x256.Idx → α) (u : S1x16x256.Idx → α) (start : Fin 3 → Int) (k : ℕ)
    (hk : k < 8000) (h0 : start 0 = k) (h1 : start 1 = 0) (h2 : start 2 = 0)
    (h : S8000x16x256.Slices (fun _ => 0) S1x16x256) (t : Fin 8000) (b : Fin 16) (f : Fin 256) :
    Host.dynamicUpdateSlice x u start h (ix3 t b f) = if t.val = k then u (ix3 0 b f) else x (ix3 t b f) := by
  obtain ⟨c0, c1, c2⟩ := clampedStart_frame start k hk h0 h1 h2 h.1
  have hb := b.isLt
  have hf := f.isLt
  pointwise
  by_cases ht : t.val = k
  · rw [dif_pos ⟨⟨c0.le.trans ht.ge, by omega⟩, ⟨by omega, by omega⟩, by omega, by omega⟩, if_pos ht]
    refine congrArg u (congr (congr (congrArg _ (Fin.ext ?_)) (Fin.ext ?_)) (Fin.ext ?_))
    · show t.val - _ = 0
      omega
    · show b.val - _ = b.val
      omega
    · show f.val - _ = f.val
      omega
  · rw [dif_neg (fun hh => ht (by omega)), if_neg ht]

/-! ## The loop -/

/-- The reference's result at one place: the frame over the root of the running norm that takes it in. -/
def value (spec : S16x1x257x8000.Idx → EReal) (s₀ : S256.Idx → EReal) (b : Fin 16) (f : Fin 256) (t : ℕ) : EReal :=
  Ideal.div (Ema.row spec b f t) (Ideal.sqrt (Ema.norm (Ema.row spec b f) (s₀ (ix1 f)) (t + 1)))

/-- What the carried buffers hold before trip `k`: the frames, the counter, the running norms after `k` frames, and the
    first `k` frames' results. -/
structure Inv (spec : S16x1x257x8000.Idx → EReal) (s₀ : S256.Idx → EReal) (k : ℕ) (V : Valuation τ sig (Elt Ideal)) : Prop where
  frames : ∀ (t : Fin 8000) (b : Fin 16) (f : Fin 256),
    (V (Proc.devRef .tc main_v5_0) : S8000x16x256.Idx → EReal) (ix3 t b f) = Ema.row spec b f t.val
  counter : V (Proc.devRef .tc main_v5_1) = fun _ => BitVec.ofNat 32 k
  norms : ∀ (b : Fin 16) (f : Fin 256),
    (V (Proc.devRef .tc main_v5_2) : S16x256.Idx → EReal) (ix2 b f) = Ema.norm (Ema.row spec b f) (s₀ (ix1 f)) k
  done : ∀ (t : Fin 8000) (b : Fin 16) (f : Fin 256), t.val < k →
    (V (Proc.devRef .tc main_v5_3) : S8000x16x256.Idx → EReal) (ix3 t b f) = value spec s₀ b f t.val

variable {spec : S16x1x257x8000.Idx → EReal} {s₀ : S256.Idx → EReal} {k : ℕ} {V : Valuation τ sig (Elt Ideal)}

/-- The counter's word, read as a signed number, is the trip. -/
theorem Inv.start (h : Inv spec s₀ k V) (hk : k < 8000) (i : S_.Idx) :
    ((V (Proc.devRef .tc main_v5_1) : S_.Idx → BitVec 32) i).toInt = k := by
  rw [h.counter]
  show (BitVec.ofNat 32 k).toInt = k
  rw [BitVec.toInt_ofNat', Int.bmod_eq_of_le] <;> omega

/-- Trip `k` takes frame `k`. -/
theorem Inv.frame (h : Inv spec s₀ k V) (hk : k < 8000) (b : Fin 16) (f : Fin 256) :
    (res_main_while0b_v8 V : S16x256.Idx → EReal) (ix2 b f) = Ema.row spec b f k := by
  unfold res_main_while0b_v8
  clean_types
  rw [show ∀ (x : S1x16x256.Idx → EReal) (hx : S1x16x256.ShapeCasts S16x256), shapeCast S16x256 x hx (ix2 b f) = x (ix3 0 b f) from
    fun x hx => by pointwise]
  rw [slice_frame _ _ k hk (h.start hk _) rfl rfl]
  exact h.frames ⟨k, hk⟩ b f

/-- Trip `k` moves the running norms one frame on. -/
theorem Inv.norm (h : Inv spec s₀ k V) (hk : k < 8000) (b : Fin 16) (f : Fin 256) :
    (res_main_while0b_v14 V : S16x256.Idx → EReal) (ix2 b f) = Ema.norm (Ema.row spec b f) (s₀ (ix1 f)) (k + 1) := by
  unfold res_main_while0b_v14
  clean_types
  pointwise
  rw [Ema.ofBits_alpha, Ema.ofBits_weight, h.frame hk b f, h.norms b f]
  rfl

/-- One trip carries the invariant on. -/
theorem Inv.step (h : Inv spec s₀ k V) (hk : k < 8000) : Inv spec s₀ (k + 1) (STEP V) where
  frames t b f := by rw [STEP_main_v5_0]; exact h.frames t b f
  counter := by
    rw [STEP_main_v5_1]
    unfold step_main_v5_1
    rw [h.counter]
    funext i
    show BitVec.ofNat 32 k + 1#32 = BitVec.ofNat 32 (k + 1)
    exact (BitVec.ofNat_add k 1).symm
  norms b f := by
    rw [STEP_main_v5_2]
    exact h.norm hk b f
  done t b f ht := by
    rw [STEP_main_v5_3]
    unfold step_main_v5_3
    clean_types
    refine (update_frame _ _ _ k hk (h.start hk _) rfl rfl _ t b f).trans ?_
    split
    next htk =>
      pointwise
      rw [h.frame hk b f, h.norm hk b f, htk]
      rfl
    next htk => exact h.done t b f (by omega)

/-- After any number of trips up to the loop's own, the invariant holds if it held at the entry. -/
theorem Inv.iterate (h : Inv spec s₀ 0 V) : ∀ n ≤ 8000, Inv spec s₀ n (STEP^[n] V)
  | 0, _ => h
  | n + 1, hn => by
    rw [Function.iterate_succ_apply']
    exact (h.iterate n (by omega)).step (by omega)

variable (m : (ℓ : Loc nD τ sig) → Buf (Elt Ideal) ℓ) (c : Dev nD)

/-- The launch's spectrogram. -/
abbrev specOf : S16x1x257x8000.Idx → EReal := m ((c.tc : Thread nD τ).loc main_arg0)
/-- The launch's starting norms. -/
abbrev normOf : S256.Idx → EReal := m ((c.tc : Thread nD τ).loc main_arg1)

/-- The operations before the loop lay the frames out in time order, start the counter at zero and the norms at the
    launch's, on every batch row alike. -/
theorem entry_inv : Inv (specOf m c) (normOf m c) 0 (entryContents preI m c) where
  frames t b f := by
    simp only [entryContents, afterL_cons, afterL_nil]
    after_reads_at
    simp only [id]
    pointwise
    rw [Ema.row_of_lt _ _ _ _ t.isLt]
  counter := ctr_entry m c
  norms b f := by
    simp only [entryContents, afterL_cons, afterL_nil]
    after_reads_at
    simp only [id]
    pointwise
    rfl
  done t b f ht := absurd ht (Nat.not_lt_zero _)

/-- The reference's result: what its last operations make of the buffers after the loop's 8000 trips. -/
def result : S16x1x256x8000.Idx → EReal := out_main_v7 (STEP^[8000] (entryContents preI m c))

/-- The reference's result, element by element. -/
theorem result_apply (b : Fin 16) (f : Fin 256) (t : Fin 8000) :
    result m c (ix4 b 0 f t) = value (specOf m c) (normOf m c) b f t.val := by
  unfold result
  unfold out_main_v7
  clean_types
  pointwise
  exact ((entry_inv m c).iterate 8000 le_rfl).done t b f t.isLt

/-- THE REFERENCE'S RUN: its result array is `result`, and its arguments are as launched. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold result
  exact run m ρ

end Cert.RefValue

end
-- ==== Proof.lean ====
/- UNTRUSTED — THE CERTIFICATE. The kernel multiplies each frame by the reciprocal root of its running norm, which it finds
   chunk by chunk by a product with a table of powers (Proof/KernelValue.lean); the reference divides by the root of the
   norm of a scan in time (Proof/Reference.lean). From positive starting norms every norm is positive, and there the two
   are equal (Proof/Ema.lean). -/
module

public import proofs.«01_k».proof.Defs
public import proofs.«01_k».proof.Proof.Gen.Kernel
public import proofs.«01_k».proof.Proof.Gen.Kernel.Frame
public import proofs.«01_k».proof.Proof.KernelValue
public import proofs.«01_k».proof.Proof.Reference
public import Idealize.ShloMosaic.Lib.ReduceAll
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

/-! ## The precondition -/

/-- What the precondition's operations ask. -/
instance preFacts : Cert.Pre_norm_positive.Facts where
  bcast_S_S256 := by decide
  reducesTo_S256_S_d0 := by decide
  h_S_ := by decide

/-- The precondition says that every starting norm is positive. -/
theorem start_pos (m : (ℓ : Loc Cert.KernelIdeal.nD Cert.KernelIdeal.τ Cert.KernelIdeal.sig) → Buf (Elt Ideal) ℓ)
    (h : Cert.Pre_KernelIdeal_norm_positive m) (c : Dev Cert.KernelIdeal.nD) (f : Fin 256) :
    0 < KernelValue.normOf m c (ix1 f) := by
  have h1 := congrFun (h c) ix0
  dsimp only [Cert.Pre_norm_positive.fn] at h1
  have h2 := Host.reduce_andi_all _ _ _ _ _ h1 (ix1 f)
  revert h2
  pointwise
  intro h2
  by_contra hn
  exact absurd (h2.symm.trans (congrArg BitVec.ofBool (decide_eq_false hn))) (by decide)

/-! ## The frames -/

/-- The reference runs, leaves its arguments as launched, and no counter above zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run _ _ _).mono (fun r h => ⟨fun c => (h c).2, sem_eq_zero_of_no_sems rfl r.2⟩) (RefValue.run_result m ρ)

/-! ## The values -/

/-- From positive starting norms the kernel's value is the reference's. -/
theorem value_eq (m : (ℓ : Loc Cert.KernelIdeal.nD Cert.KernelIdeal.τ Cert.KernelIdeal.sig) → Buf (Elt Ideal) ℓ)
    (h : Cert.Pre_KernelIdeal_norm_positive m) (c : Dev Cert.KernelIdeal.nD) (b : Fin 16) (f : Fin 256) (t : ℕ) :
    KernelValue.value m c b f t = RefValue.value (KernelValue.specOf m c) (KernelValue.normOf m c) b f t :=
  Ema.mul_rsqrt _ (Ema.norm_pos _ (start_pos m h c f) (t + 1))

/-- THE VALUE CLAIM: both run to one result. -/
theorem algebraic : Cert.algebraic_KernelIdeal_ReferenceIdeal_pre_norm_positive := by
  intro m g m' g' hpre hagree
  refine ⟨RefValue.result m', ?_, RefValue.run_result m' g'⟩
  refine (θ_run _ _ _).mono (fun r h c => ⟨?_, (h c).2⟩) (KernelValue.run_value m g)
  funext y
  obtain ⟨b, f, t, rfl⟩ : ∃ (b : Fin 16) (f : Fin 256) (t : Fin 8000), y = ix4 b 0 f t :=
    ⟨y 0, y 2, y 3, by idx_vars y; exact congrArg (ix4 _ · _ _) (Subsingleton.elim _ _)⟩
  refine ((h c).1 b f t).trans ((value_eq m hpre c b f t.val).trans ?_)
  refine Eq.trans ?_ (RefValue.result_apply m' c b f t).symm
  rw [show RefValue.specOf m' c = KernelValue.specOf m c from (hagree c).1,
    show RefValue.normOf m' c = KernelValue.normOf m c from (hagree c).2]

/-- Every claim of the certificate. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
